-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1000000x64 : Shape := ⟨2, ![1000000, 64]⟩
abbrev S8000x64 : Shape := ⟨2, ![8000, 64]⟩

abbrev nBuf : Space → Nat
  | .hbm => 2
  | .vmem => 4
  | .smem => 0
  | _ => 0

abbrev bufTy : (tb : Table) → Fin (tcTables nBuf tb) → BufTy
  | .hbm, ⟨0, _⟩ => ⟨S1000000x64, .f32⟩
  | .hbm, ⟨1, _⟩ => ⟨S1000000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![125], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_1 : BitVec 32 := 0#32
  let v5 : BitVec 1 := Scalar.cmpi .ne v4 c0_i32_1
  v5

def k0_cond2 (i : grid0.Coords) : BitVec 1 :=
  let arg0 : BitVec 32 := BitVec.ofNat 32 (i 0).val
  let c0_i32_2 : BitVec 32 := 0#32
  let v6 : BitVec 1 := Scalar.cmpi .ne arg0 c0_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S1000000x64 : Shape := ⟨2, ![1000000, 64]⟩
abbrev S_ : Shape := ⟨0, ![]⟩
abbrev S64 : Shape := ⟨1, ![64]⟩
abbrev S1 : Shape := ⟨1, ![1]⟩

abbrev nBuf : Space → Nat
  | .hbm => 9
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S_, .f32⟩
  | .hbm, ⟨2, _⟩ => ⟨S64, .f32⟩
  | .hbm, ⟨3, _⟩ => ⟨S_, .i32⟩
  | .hbm, ⟨4, _⟩ => ⟨S1, .i32⟩
  | .hbm, ⟨5, _⟩ => ⟨S1000000x64, .f32⟩
  | .hbm, ⟨6, _⟩ => ⟨S_, .f32⟩
  | .hbm, ⟨7, _⟩ => ⟨S1000000x64, .f32⟩
  | .hbm, ⟨8, _⟩ => ⟨S1000000x64, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.RowSet.lean ====
/-
  The mathematics shared by the kernel and the reference, with no program in it: the array that the problem asks for,
  written element by element, and the two facts about words and literals that its proofs use.
-/
module

public import Idealize.ShloMosaic.PureOps
public import Idealize.ShloMosaic.Lib.ValueIdx
public import Idealize.ShloMosaic.Lib.WordCmp

@[expose] public section

noncomputable section

namespace Cert.RowSet

open Idealize.ShloMosaic

variable {F : FTy → Type} [FloatOps F]

/-- The element of the wanted array in row `r` over an element `a` of the argument: `two` in row 1, elsewhere `a + 1`. -/
def elt (two : F .f32) (r : Nat) (a : F .f32) : F .f32 :=
  if r = 1 then two else FloatOps.addf a (FloatOps.ofBits .f32 0x3F800000#32)

/-- The wanted array over the argument `x` (any number of rows): row 1 holds `two`, every other element is one more than
    the argument's. -/
def arr {n d : Nat} (two : F .f32) (x : FVec F ⟨2, ![n, d]⟩ .f32) : FVec F ⟨2, ![n, d]⟩ .f32 :=
  fun i => elt two (i 0).val (x i)

/-- The kernel's word for the row `r < 2 ^ 32` equals the word one exactly in row 1, so a selection on that comparison
    is the selection on `r = 1`. -/
theorem select_row {α : Type} (r : Nat) (hr : r < 2 ^ 32) (a b : α) :
    Scalar.select (IntOp.cmpi .eq (BitVec.ofNat 32 r) 1#32) a b = if r = 1 then a else b := by
  have e : (BitVec.ofNat 32 r = 1#32) ↔ r = 1 := by
    constructor
    · intro h
      have := congrArg BitVec.toNat h
      rw [BitVec.toNat_ofNat, Nat.mod_eq_of_lt hr] at this
      exact this
    · rintro rfl; rfl
  by_cases h : r = 1
  · subst h; rfl
  · have hw : ¬ BitVec.ofNat 32 r = 1#32 := fun q => h (e.1 q)
    have hb : (BitVec.ofNat 32 r == 1#32) = false := beq_eq_false_iff_ne.2 hw
    rw [if_neg h]
    simp [Scalar.select, IntOp.cmpi, hb]

/-- Over the extended reals one and one are two, as the float words that the programs write. -/
theorem ideal_two : (FloatOps.addf (FloatOps.ofBits .f32 0x3F800000#32) (FloatOps.ofBits .f32 0x3F800000#32) : Ideal .f32)
    = FloatOps.ofBits .f32 0x40000000#32 := by
  rw [Ideal.addf_def, Ideal.ofBits_def, Ideal.ofBits_def]
  have h1 : Ideal.ofBits .f32 0x3F800000#32 = ((1 : ℝ) : EReal) := by
    simp [Ideal.ofBits, Ideal.ieee, -EReal.coe_mul]
    norm_num
  have h2 : Ideal.ofBits .f32 0x40000000#32 = ((2 : ℝ) : EReal) := by
    simp [Ideal.ofBits, Ideal.ieee, -EReal.coe_mul]
    norm_num
  rw [h1, h2, ← EReal.coe_add]
  norm_num

end Cert.RowSet

end
-- ==== Proof.KernelValue.lean ====
/-
  What the kernel's result array holds after the run, over any float values: block by block first, then the whole
  array.
-/
module

public import proofs.«01_k».proof.Proof.RowSet
public import proofs.«01_k».proof.Proof.Gen.KernelIdeal.Value
public import Idealize.ShloMosaic.Lib.Tactic

@[expose] public section

noncomputable section

namespace Cert.KernelIdeal.Result

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The literal two that the kernel writes into row 1. -/
abbrev two : F .f32 := FloatOps.ofBits .f32 0x40000000#32

theorem zero_offsets : (![0, 0] : Fin 2 → Nat) = fun _ => 0 := funext fun a => by fin_cases a <;> rfl

/-! ## One block -/

/-- The first block's payload: the wanted array over the input block, its row 1 being the array's row 1. -/
theorem pay_first (x : Vec F S8000x64 .f32) : k0_pay2 x = Cert.RowSet.arr two x := by
  funext j
  have hj : (j 0).val < 8000 := (j 0).isLt
  have hi : (iota .tc S8000x64 32 [0] iota_S8000x64_d0_w32 : IVec S8000x64 32) j = BitVec.ofNat 32 (j 0).val :=
    iota_single_apply ..
  unfold k0_pay2
  show Scalar.select (IntOp.cmpi .eq ((iota .tc S8000x64 32 [0] iota_S8000x64_d0_w32 : IVec S8000x64 32) j) 1#32) _ _ = _
  rw [hi, Cert.RowSet.select_row (j 0).val (by omega)]
  rfl

/-- Every other block's payload: one more than the input block. -/
theorem pay_rest (x : Vec F S8000x64 .f32) (j : S8000x64.Idx) :
    k0_pay1 x j = FloatOps.addf (x j) (FloatOps.ofBits .f32 0x3F800000#32) := rfl

/-- What the body leaves in the output's buffer at the first grid point. -/
theorem out_first (c : Dev nD) (i : grid0.Coords) (a1 : Memref sig .tc .vmem S8000x64 .f32) (h1 : a1.IsWhole)
    (a2 : Memref sig .tc .vmem S8000x64 .f32) (h2 : a2.IsWhole) (hc0 : cond0_0 i) (hc1 : ¬cond0_1 i)
    (x : Vec F S8000x64 .f32) : out0_A_1 c i a1 h1 a2 h2 hc0 hc1 x = k0_pay2 x := by
  unfold out0_A_1
  rw [View.read_writes_eq_canon _ _ _ (cover0_A_1 c i a1 h1 a2 h2 hc0 hc1 x)]
  unfold kernelRun0_A
  dsimp only
  sl_unfold_words
  rw [View.canon_unit_zero zero_offsets]
  simp only [View.readAt_eq_ld, h1.read_unread, View.ld_unit_zero (S := S8000x64) zero_offsets]

/-- What the body leaves in the output's buffer at every later grid point. -/
theorem out_rest (c : Dev nD) (i : grid0.Coords) (a1 : Memref sig .tc .vmem S8000x64 .f32) (h1 : a1.IsWhole)
    (a2 : Memref sig .tc .vmem S8000x64 .f32) (h2 : a2.IsWhole) (hc0 : ¬cond0_0 i) (hc1 : cond0_1 i)
    (x : Vec F S8000x64 .f32) : out0_B_1 c i a1 h1 a2 h2 hc0 hc1 x = k0_pay1 x := by
  unfold out0_B_1
  rw [View.read_writes_eq_canon _ _ _ (cover0_B_1 c i a1 h1 a2 h2 hc0 hc1 x)]
  unfold kernelRun0_B
  dsimp only
  sl_unfold_words
  rw [View.canon_unit_zero zero_offsets]
  simp only [View.readAt_eq_ld, h1.read_unread, View.ld_unit_zero (S := S8000x64) zero_offsets]

/-! ## The whole array -/

/-- The wanted array over device `c`'s argument, as contents of the result array. -/
abbrev G (c : Dev nD) : Buf (Elt F) ((c : Thread nD τ).loc main_v0) :=
  Cert.RowSet.arr (n := 1000000) (d := 64) two (m ((c : Thread nD τ).loc main_arg0))

/-- Where the two windows are at point `t`: both at row block `t` of their arrays. -/
theorem index_at (t : Fin cfg0.N) : win0_0.index t 0 = t.val ∧ win0_0.index t 1 = 0
    ∧ win0_1.index t 0 = t.val ∧ win0_1.index t 1 = 0 :=
  (by decide +kernel : ∀ t : Fin grid0.N, win0_0.index t 0 = t.val ∧ win0_0.index t 1 = 0
    ∧ win0_1.index t 0 = t.val ∧ win0_1.index t 1 = 0) t

/-- Element `j` of the input block at point `t` is the argument's element under element `j` of the output's block. -/
theorem iblk_apply (c : Dev nD) (t : Fin cfg0.N) (j : S8000x64.Idx) :
    (iblk m c 0 t : Vec F S8000x64 .f32) j
      = m ((c : Thread nD τ).loc main_arg0) (((cfg0.win 1).blk t).view.emb j) := by
  rfl

/-- The array row under row `j 0` of the output's block at point `t`. -/
theorem row_at (t : Fin cfg0.N) (j : S8000x64.Idx) :
    ((((cfg0.win 1).blk t).view.emb j : S1000000x64.Idx) 0).val = t.val * 8000 + (j 0).val := by
  show win0_1.index t 0 * 8000 + 1 * (j 0).val = _
  rw [(index_at t).2.2.1, Nat.one_mul]

/-- What point `t` writes back is block `t` of the wanted array. -/
theorem flushed_eq (c : Dev nD) (t : Fin cfg0.N) :
    (dats m 0 c).flushed 1 t = ((cfg0.win 1).blk t).view.read (Elt F) (G m c) := by
  have hN : t.val < 125 := Nat.lt_of_lt_of_eq t.isLt N_0
  have row := row_at t
  by_cases h : t.val = 0
  · rw [Value.flushed1_A m c t (by omega) (by omega), out_first, pay_first]
    funext j
    show Cert.RowSet.elt two (j 0).val _ = Cert.RowSet.elt two _ _
    rw [row j, h, Nat.zero_mul, Nat.zero_add]
    rfl
  · rw [Value.flushed1_B m c t (by omega) (by omega), out_rest]
    funext j
    show k0_pay1 _ j = Cert.RowSet.elt two _ _
    rw [row j, pay_rest, Cert.RowSet.elt, if_neg (by omega)]
    rfl

/-- Every element of the result array lies in the block of one grid point, that of its row block. -/
theorem cover (i : S1000000x64.Idx) :
    ∃ t : Fin cfg0.N, (cfg0.win 1).flush t = true ∧ i ∈ ((cfg0.win 1).blk t).view.set := by
  have h0 : (i 0).val < 1000000 := (i 0).isLt
  have h1 : (i 1).val < 64 := (i 1).isLt
  have hN : cfg0.N = 125 := N_0
  have ht : (i 0).val / 8000 < cfg0.N := by omega
  refine ⟨⟨(i 0).val / 8000, ht⟩, flush0_1 _, ?_⟩
  show i ∈ ((View.whole main_v0).slice (win0_1.rect ⟨(i 0).val / 8000, ht⟩)).set
  rw [View.set_slice_whole, Rect.mem_set_unit]
  have e := index_at ⟨(i 0).val / 8000, ht⟩
  intro a
  match a with
  | ⟨0, _⟩ =>
    show win0_1.index _ 0 * 8000 ≤ (i 0).val ∧ (i 0).val < win0_1.index _ 0 * 8000 + 8000
    rw [e.2.2.1]
    dsimp only
    omega
  | ⟨1, _⟩ =>
    show win0_1.index _ 1 * 64 ≤ (i 1).val ∧ (i 1).val < win0_1.index _ 1 * 64 + 64
    rw [e.2.2.2]
    omega

/-- The result array ends as the wanted array. -/
theorem final (c : Dev nD) : (dats m 0 c).arrAt 1 cfg0.N = G m c :=
  (dats m 0 c).arrAt_eq_of_cover 1 (G m c) (fun t _ => flushed_eq m c t) cover

/-- The kernel's run: the result is the wanted array over the argument, which ends unchanged. -/
theorem run : θ_run defs (onTc (τ := τ) (main (F := F))) ⟨m, fun _ => 0, ρ⟩ fun r => ∀ c : Dev nD,
      r.2.mem ((c : Thread nD τ).loc main_v0) = G m c
      ∧ r.2.mem ((c : Thread nD τ).loc main_arg0) = m ((c : Thread nD τ).loc main_arg0) :=
  (θ_run defs _ _).mono (fun _ h c => ⟨(h c).1.trans (final m c), (h c).2⟩) (Value.run_blocks m ρ)

end Cert.KernelIdeal.Result

end
-- ==== Proof.ReferenceValue.lean ====
/-
  What the reference computes, over any float values: the scatter that overwrites row 1 read at an element, then the
  whole result.
-/
module

public import proofs.«01_k».proof.Proof.RowSet
public import proofs.«01_k».proof.Proof.Gen.ReferenceIdeal.Run
public import Idealize.ShloMosaic.Lib.Routing.OpsSet

@[expose] public section

noncomputable section

namespace Cert.ReferenceIdeal.Result

open Cert.ReferenceIdeal Cert.ReferenceIdeal.Gen Idealize.ShloMosaic Idealize.ShloMosaic.TcCoe Idealize.SL.Sem
open Idealize.ShloMosaic.ValueIdx Idealize.ShloMosaic.Routing

variable {F : FTy → Type} [FloatOps F]

/-- The scatter's one index word is one. -/
abbrev idx : IVec S1 32 := broadcastInDim S1 ![] bcast_S_S1 (constantI S_ 32 1#32)

/-- The scatter's update: a row of ones. -/
abbrev ones : FVec F S64 .f32 := broadcastInDim S64 ![] bcast_S_S64 (constant S_ .f32 0x3F800000#32)

/-- Element `k` of the update lands at `(r, c)` exactly when `r` is row 1 and `c` is `k`. -/
theorem lands (k : Fin 64) (r : Fin 1000000) (c : Fin 64) :
    scatter_S1000000x64_S1_S64_0_0_0_0.resultIdx? (ix1 k) idx = some (ix2 r c) ↔ 1 = r.val ∧ k.val = c.val := by
  have s0 : scatter_S1000000x64_S1_S64_0_0_0_0.start (ix1 k) idx 0 = 1 := rfl
  have s1 : scatter_S1000000x64_S1_S64_0_0_0_0.start (ix1 k) idx 1 = 0 := rfl
  have w0 : scatter_S1000000x64_S1_S64_0_0_0_0.window (ix1 k) 0 = 0 := rfl
  have w1 : scatter_S1000000x64_S1_S64_0_0_0_0.window (ix1 k) 1 = k.val := rfl
  rw [resultIdx?_ix2, s0, s1, w0, w1]
  omega

/-- The scattered array: one in row 1, the operand elsewhere. -/
theorem scatter_apply (x : FVec F S1000000x64 .f32) (i : S1000000x64.Idx) :
    Host.scatter scatter_S1000000x64_S1_S64_0_0_0_0 (fun _ b => b) x idx ones i
      = if (i 0).val = 1 then FloatOps.ofBits .f32 0x3F800000#32 else x i := by
  obtain ⟨r, c, rfl⟩ : ∃ (r : Fin 1000000) (c : Fin 64), i = ix2 r c := ⟨i 0, i 1, eq_ix2 i⟩
  by_cases h : r.val = 1
  · rw [if_pos h]
    exact scatter_set_hit _ x idx ones _ _ (fun _ _ => rfl) (ix1 c) ((lands c r c).2 ⟨h.symm, rfl⟩)
  · rw [if_neg h]
    refine scatter_set_miss _ x idx ones _ fun k hk => ?_
    rw [eq_ix1 k] at hk
    exact h ((lands _ r c).1 hk).1.symm

/-- The reference's whole result: the array with `1 + 1` in row 1 and one more than the argument elsewhere. -/
theorem value (x : FVec F S1000000x64 .f32) :
    addf (Host.scatter scatter_S1000000x64_S1_S64_0_0_0_0 (fun _ b => b) x idx ones)
        (broadcastInDim S1000000x64 ![] bcast_S_S1000000x64 (constant S_ .f32 0x3F800000#32))
      = Cert.RowSet.arr (n := 1000000) (d := 64)
          (FloatOps.addf (FloatOps.ofBits .f32 0x3F800000#32) (FloatOps.ofBits .f32 0x3F800000#32)) x := by
  funext i
  show FloatOps.addf (Host.scatter scatter_S1000000x64_S1_S64_0_0_0_0 (fun _ b => b) x idx ones i)
      (FloatOps.ofBits .f32 0x3F800000#32) = Cert.RowSet.elt _ (i 0).val (x i)
  rw [scatter_apply, Cert.RowSet.elt]
  split <;> rfl

end Cert.ReferenceIdeal.Result

end
-- ==== Proof.lean ====
/-
  The proof of `Cert.Claim`: the three frames, the idealization, and the equality of the kernel and the reference over
  the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelValue
public import proofs.«01_k».proof.Proof.ReferenceValue
public import Idealize.ShloMosaic.Lib.Quiescent
public import Idealize.ShloMosaic.Adequacy
public import Idealize.ShloMosaic.Init

@[expose] public section

noncomputable section

namespace Cert.Proof

open Idealize.ShloMosaic Idealize.SL.Sem

/-- The reference terminates, leaves its argument unchanged, and has no semaphore at all. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Over the extended reals the kernel and the reference end with the same array: the reference's row 1 holds `1 + 1`,
    the kernel's the literal two, and elsewhere both hold one more than the argument. -/
theorem algebraic : Cert.algebraic_KernelIdeal_ReferenceIdeal := by
  intro m ρ m' ρ' _ hagree
  refine ⟨fun c => Cert.KernelIdeal.Result.G m c, Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Result.value _).trans ?_
  rw [hagree c, Cert.RowSet.ideal_two]

/-- All the claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference,
    trivial, algebraic⟩

end Cert.Proof

end
